-- ==== Defs.lean ====
def Pre_Kernel [hPre_index_in_bank : Cert.Pre_index_in_bank.Facts] (m : (ℓ : Loc Cert.Kernel.nD Cert.Kernel.τ Cert.Kernel.sig) → Buf (Elt Bits) ℓ) : Prop :=
  ∀ c : Dev Cert.Kernel.nD,
    (Cert.Pre_index_in_bank.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_index_in_bank : Cert.Pre_index_in_bank.Facts] (m : (ℓ : Loc Cert.KernelIdeal.nD Cert.KernelIdeal.τ Cert.KernelIdeal.sig) → Buf (Elt Ideal) ℓ) : Prop :=
  ∀ c : Dev Cert.KernelIdeal.nD,
    (Cert.Pre_index_in_bank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_in_bank [hPre_index_in_bank : Cert.Pre_index_in_bank.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_in_bank.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference (m : (ℓ : Loc Cert.Reference.nD Cert.Reference.τ Cert.Reference.sig) → Buf (Elt Bits) ℓ) : Prop :=
  True

def Pre_Reference_index_in_bank [hPre_index_in_bank : Cert.Pre_index_in_bank.Facts] (m : (ℓ : Loc Cert.Reference.nD Cert.Reference.τ Cert.Reference.sig) → Buf (Elt Bits) ℓ) : Prop :=
  ∀ c : Dev Cert.Reference.nD,
    (Cert.Pre_index_in_bank.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_index_in_bank : Cert.Pre_index_in_bank.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_index_in_bank : Cert.Pre_index_in_bank.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_index_in_bank [hReferenceIdeal : Cert.ReferenceIdeal.Facts] [hPre_index_in_bank : Cert.Pre_index_in_bank.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_in_bank m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_index_in_bank [hReference : Cert.Reference.Facts] [hPre_index_in_bank : Cert.Pre_index_in_bank.Facts] : Prop :=
  ∀ (m : (ℓ : Loc Cert.Reference.nD Cert.Reference.τ Cert.Reference.sig) → Buf (Elt Bits) ℓ) (g : Dev Cert.Reference.nD → PrngReg), Pre_Reference_index_in_bank m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_index_in_bank : Cert.Pre_index_in_bank.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_index_in_bank : Cert.Pre_index_in_bank.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_index_in_bank : Cert.Pre_index_in_bank.Facts),
    quiescent_Kernel (hKernel := hKernel) (hPre_index_in_bank := hPre_index_in_bank)
    ∧ quiescent_KernelIdeal (hKernelIdeal := hKernelIdeal) (hPre_index_in_bank := hPre_index_in_bank)
    ∧ quiescent_ReferenceIdeal (hReferenceIdeal := hReferenceIdeal)
    ∧ quiescent_ReferenceIdeal_pre_index_in_bank (hReferenceIdeal := hReferenceIdeal) (hPre_index_in_bank := hPre_index_in_bank)
    ∧ quiescent_Reference (hReference := hReference)
    ∧ quiescent_Reference_pre_index_in_bank (hReference := hReference) (hPre_index_in_bank := hPre_index_in_bank)
    ∧ preserves_Kernel_KernelIdeal
    ∧ algebraic_KernelIdeal_ReferenceIdeal (hKernelIdeal := hKernelIdeal) (hReferenceIdeal := hReferenceIdeal) (hPre_index_in_bank := hPre_index_in_bank)
    ∧ bitexact_Kernel_Reference (hKernel := hKernel) (hReference := hReference) (hPre_index_in_bank := hPre_index_in_bank)
-- ==== Pre_index_in_bank.lean ====
abbrev S16384 : Shape := ⟨1, ![16384]⟩
abbrev S128x1000000 : Shape := ⟨2, ![128, 1000000]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S128x1000000 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S128x1000000 : Shape := ⟨2, ![128, 1000000]⟩
abbrev S128000000 : Shape := ⟨1, ![128000000]⟩
abbrev S128x16384 : Shape := ⟨2, ![128, 16384]⟩
abbrev S_ : Shape := ⟨0, ![]⟩
abbrev S1000000 : Shape := ⟨1, ![1000000]⟩
abbrev S1x16384 : Shape := ⟨2, ![1, 16384]⟩

abbrev nBuf : Table → Nat
  | .hbm => 4
  | .local .scVector .vmem => 2
  | _ => 0

abbrev bufTy : (tb : Table) → Fin (nBuf tb) → BufTy
  | .hbm, ⟨0, _⟩ => ⟨S16384, .i32⟩
  | .hbm, ⟨1, _⟩ => ⟨S128x1000000, .f32⟩
  | .hbm, ⟨2, _⟩ => ⟨S128000000, .f32⟩
  | .hbm, ⟨3, _⟩ => ⟨S128x16384, .f32⟩
  | .local .scVector .vmem, ⟨0, _⟩ => ⟨S16384, .i32⟩
  | .local .scVector .vmem, ⟨1, _⟩ => ⟨S16384, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c1000000_i32 : BitVec 32 := 1000000#32
  let v4 : BitVec 32 := Scalar.muli v3 c1000000_i32
  ![v4.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c0_i32_15_r1 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384 : Shape := ⟨1, ![16384]⟩
abbrev S128x1000000 : Shape := ⟨2, ![128, 1000000]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S128x16384 : Shape := ⟨2, ![128, 16384]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S128x1000000, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S128x16384, .f32⟩
  | .hbm, ⟨21, _⟩ => ⟨S128x16384, .i1⟩
  | .hbm, ⟨22, _⟩ => ⟨S_, .f32⟩
  | .hbm, ⟨23, _⟩ => ⟨S128x16384, .f32⟩
  | .hbm, ⟨24, _⟩ => ⟨S128x16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Value.lean ====
/-
  The values both programs are compared at: entry `(d, j)` of the result is row `d` of the bank at the column the `j`-th
  index names. Stated over the bank as the arrays hold it and over the bank laid out flat, row after row, as the tiles
  read it. Generic in the float values.
-/
module

public import Idealize.ShloMosaic.PureOps
public import Idealize.ShloMosaic.Lib.Tactic

@[expose] public section

noncomputable section

namespace Cert.Proof.Value

open Idealize.ShloMosaic

variable {F : FTy → Type}

/-- The indices' shape, the bank's, the flat bank's and the result's. -/
abbrev Tok : Shape := ⟨1, ![16384]⟩
abbrev Bank : Shape := ⟨2, ![128, 1000000]⟩
abbrev Flat : Shape := ⟨1, ![128000000]⟩
abbrev Out : Shape := ⟨2, ![128, 16384]⟩

/-- The `j`-th token. -/
abbrev tok (j : Fin 16384) : Tok.Idx := fun | 0 => j
/-- The bank's entry at row `d` and column `n`. -/
abbrev bankAt (d : Fin 128) (n : Fin 1000000) : Bank.Idx := fun | 0 => d | 1 => n
/-- The word a row and a column have in the flat bank. -/
abbrev flatAt (k : Fin 128000000) : Flat.Idx := fun | 0 => k

/-- The column an index word names; a word past the last column is given the last one, which no index in range reaches. -/
def col (v : BitVec 32) : Fin 1000000 := ⟨min v.toNat 999999, by omega⟩

/-- A word in range names the column it counts. -/
theorem col_val {v : BitVec 32} (h : v.toNat < 1000000) : (col v).val = v.toNat := by
  show min v.toNat 999999 = v.toNat
  omega

/-- Every index names a column of the bank. -/
def InBank (x : Tok.Idx → BitVec 32) : Prop := ∀ j, (x j).toNat < 1000000

/-- The gathered columns, from the bank. -/
def picked (x : Tok.Idx → BitVec 32) (b : Bank.Idx → F .f32) : Out.Idx → F .f32 :=
  fun y => b (bankAt (y 0) (col (x (tok (y 1)))))

/-- The word of the flat bank where row `d` keeps column `n`. -/
def word (d : Fin 128) (n : Fin 1000000) : Fin 128000000 := ⟨d.val * 1000000 + n.val, by omega⟩

/-- The gathered columns, from the flat bank. -/
def pickedFlat (x : Tok.Idx → BitVec 32) (b : Flat.Idx → F .f32) : Out.Idx → F .f32 :=
  fun y => b (flatAt (word (y 0) (col (x (tok (y 1))))))

/-- Gathering from the bank laid out flat is gathering from the bank. -/
theorem pickedFlat_flat (x : Tok.Idx → BitVec 32) (b : Bank.Idx → F .f32) (h : Bank.ShapeCasts Flat) :
    pickedFlat x (shapeCast Flat b h) = picked x b := by
  funext y
  refine congrArg b (Shape.reshapeEquiv_eq_of_rowMajor h ?_)
  rw [Shape.rowMajor_val_two, Shape.rowMajor_val_one]
  rfl

end Cert.Proof.Value

end
-- ==== Proof.InRange.lean ====
/-
  What the precondition says: its fold by `and` over the two comparisons of every index is true exactly when every index
  is at least zero and below the bank's width, so when it is true every index word names a column.
-/
module

public import proofs.«01_k».proof.Proof.Value
public import proofs.«01_k».proof.Proof.Gen.Pre_index_in_bank
public import Idealize.ShloMosaic.Lib.ReduceAll

@[expose] public section

noncomputable section

namespace Cert.Proof.Value

open Idealize.ShloMosaic

/-- A word at least zero and below the width, read signed, is below the width read unsigned. -/
theorem word_lt {v : BitVec 32} (h0 : IntOp.cmpi .sge v 0#32 = 1#1) (h1 : IntOp.cmpi .slt v 1000000#32 = 1#1) : v.toNat < 1000000 := by
  have e0 : (0#32 : BitVec 32).sle v = true := by
    cases hb : (0#32 : BitVec 32).sle v
    · simp [IntOp.cmpi, hb] at h0
    · rfl
  have e1 : v.slt 1000000#32 = true := by
    cases hb : v.slt 1000000#32
    · simp [IntOp.cmpi, hb] at h1
    · rfl
  have i0 := of_decide_eq_true (BitVec.sle_eq_decide.symm.trans e0)
  have i1 := of_decide_eq_true (BitVec.slt_eq_decide.symm.trans e1)
  rw [show (0#32 : BitVec 32).toInt = 0 from rfl] at i0
  rw [show (1000000#32 : BitVec 32).toInt = 1000000 from rfl] at i1
  rw [BitVec.toInt_eq_toNat_cond v] at i0 i1
  have := v.isLt
  split at i0 <;> rename_i hv <;> simp only [hv, if_true, if_false] at i1 <;> omega

/-- A word below the width is at least zero and below the width, read signed. -/
theorem toInt_of_lt {v : BitVec 32} (h : v.toNat < 1000000) : v.toInt = (v.toNat : Int) := by
  rw [BitVec.toInt_eq_toNat_cond, if_pos (by omega)]

/-- The precondition has one value. -/
instance : Subsingleton Cert.Pre_index_in_bank.S_.Idx := ⟨fun a b => funext fun i => i.elim0⟩

/-- Where the precondition holds, every index names a column of the bank. -/
theorem inBank_of_pre {F : FTy → Type} [FloatOps F] [Cert.Pre_index_in_bank.Facts] {x : IVec Tok 32} {b : FVec F Bank .f32}
    (h : Cert.Pre_index_in_bank.fn (F := F) x b = fun _ => 1#1) : InBank x := by
  intro j
  have e := congrFun h (Shape.Idx.first Cert.Pre_index_in_bank.Facts.h_S_)
  unfold Cert.Pre_index_in_bank.fn at e
  dsimp only at e
  have e' : IntOp.andi (IntOp.cmpi .sge (x j) 0#32) (IntOp.cmpi .slt (x j) 1000000#32) = 1#1 := Host.reduce_andi_all _ _ _ _ _ e j
  obtain ⟨h0, h1⟩ := IntOp.andi_eq_one.1 e'
  exact word_lt h0 h1

end Cert.Proof.Value

end
-- ==== Proof.Kernel.Result.lean ====
/-
  The program's run, its result stated over the bank as the argument holds it.
-/
module

public import proofs.«01_k».proof.Proof.Kernel.Run

@[expose] public section

noncomputable section

namespace Cert.Proof.Kernel

open Cert.Kernel Cert.Kernel.Gen Cert.Proof.Value
open Idealize.ShloMosaic Idealize.SL.Sem

variable {F : FTy → Type} [FloatOps F]
variable (m : (ℓ : Loc nD τ sig) → Buf (Elt F) ℓ) (ρ : Dev nD → PrngReg)

/-- Every run ends with the result at the gathered columns of the bank, both arguments unchanged, every semaphore at zero. -/
theorem gathers [∀ e, Nonempty (Elt F e)] (hx : ∀ d, InBank (x₀ m d)) :
    θ_run (Cert.Kernel.defs (F := F)) (Cert.Kernel.threads (F := F)) ⟨m, fun _ => 0, ρ⟩ fun r =>
      (∀ d : Dev nD, r.2.mem (oLoc d) = picked (F := F) (m (iLoc d)) (m (aLoc d)) ∧ r.2.mem (iLoc d) = m (iLoc d) ∧ r.2.mem (aLoc d) = m (aLoc d))
        ∧ r.2.sem = fun _ => 0 :=
  (θ_run _ _ _).mono (fun _ h => ⟨fun d => ⟨(h.1 d).1.trans (pickedFlat_flat (F := F) (m (iLoc d)) (m (aLoc d)) shapeCasts_S128x1000000_S128000000), (h.1 d).2⟩, h.2⟩)
    (run m ρ hx)

end Cert.Proof.Kernel

end
-- ==== Proof.KernelIdeal.Setup.lean ====
/-
  The kernel's program as a launch of one vector-subcore call: the names of its arrays and scratch buffers, the share of
  the index list and of the flat bank each of the thirty-two tiles reads, the four rows of the result it writes, and what
  the call hands a tile and takes back. The result's contents after a tile are the gathered columns themselves.
-/
module

public import proofs.«01_k».proof.Defs
public import proofs.«01_k».proof.Proof.Gen.KernelIdeal
public import proofs.«01_k».proof.Proof.Gen.KernelIdeal.Skeleton
public import proofs.«01_k».proof.Proof.Value
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen Cert.Proof.Value

open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as a launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and no kernel's, and no tile shares a SparseCore's own buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the tiles' scratch -/

/-- The index list, the bank, the flat bank, the result. -/
abbrev iLoc (d : Dev nD) : Loc nD τ sig := (SparseCore.T d).loc main_arg0
abbrev aLoc (d : Dev nD) : Loc nD τ sig := (SparseCore.T d).loc main_arg1
abbrev bLoc (d : Dev nD) : Loc nD τ sig := (SparseCore.T d).loc main_v0
abbrev oLoc (d : Dev nD) : Loc nD τ sig := (SparseCore.T d).loc main_v1

/-- The same as a tile names them, and its two scratch buffers: the index list it works from and the row it gathers. -/
abbrev iV : Memref sig .scVector .hbm S16384 .i32 := Memref.whole main_arg0_scv
abbrev bV : Memref sig .scVector .hbm S128000000 .f32 := Memref.whole main_v0_scv
abbrev oV : Memref sig .scVector .hbm S128x16384 .f32 := Memref.whole main_v1_scv
abbrev sV : Memref sig .scVector .vmem S16384 .i32 := Memref.whole cc0_scratch0
abbrev rV : Memref sig .scVector .vmem S16384 .f32 := Memref.whole cc0_scratch1

/-! ## A tile's share -/

/-- The tile of SparseCore `c` and subcore `s`, counted core within subcore. -/
def wid (c : Fin 2) (s : Fin 16) : Fin (2 ^ 5) := ⟨2 * s.val + c.val, by omega⟩
/-- The share of the read-only arrays a tile is lent: one of thirty-two leaves of the whole. -/
abbrev shq (c : Fin 2) (s : Fin 16) : PosShare TreeShare := ShareLeaves.leaf 5 fullShare (wid c s)
/-- The `r`-th of a tile's four rows of the result. -/
def rowOf (c : Fin 2) (s : Fin 16) (r : Fin 4) : Fin 128 := ⟨8 * s.val + 4 * c.val + r.val, by omega⟩

/-- The result splits into 128 rows. -/
theorem odiv : 128 ∣ S128x16384.size 0 := ⟨1, rfl⟩
/-- Row `k` of the result. -/
abbrev orow (k : Fin 128) : Rect S128x16384 := Rect.part (s := S128x16384) (a₀ := 0) odiv k
abbrev oRowSet (k : Fin 128) : Finset S128x16384.Idx := (oV.view.slice (orow k)).set

variable (x : (d : Dev nD) → Buf (Elt F) (iLoc d)) (b : (d : Dev nD) → Buf (Elt F) (bLoc d)) (o : (d : Dev nD) → Buf (Elt F) (oLoc d))

/-- What the result holds at the end: the gathered columns. -/
def res (d : Dev nD) : Buf (Elt F) (oLoc d) := pickedFlat (F := F) (x d) (b d)

/-- A tile's shares of the index list and of the flat bank. -/
abbrev iPts (d : Dev nD) (c : Fin 2) (s : Fin 16) : sProp 𝕄 := iLoc d ↦{shq c s} x d
abbrev bPts (d : Dev nD) (c : Fin 2) (s : Fin 16) : sProp 𝕄 := bLoc d ↦{shq c s} b d
/-- One row of the result. -/
abbrev oPts (d : Dev nD) (f : Buf (Elt F) (oLoc d)) (k : Fin 128) : sProp 𝕄 := oLoc d ↦[oRowSet k]{fullShare} f
/-- A tile's four rows. -/
abbrev rowsPts (d : Dev nD) (f : Buf (Elt F) (oLoc d)) (c : Fin 2) (s : Fin 16) : sProp 𝕄 :=
  bigSep Finset.univ fun r : Fin 4 => oPts d f (rowOf c s r)

/-- All a tile holds of the arrays, its rows of the result at `f`. -/
abbrev tilePts (f : (d : Dev nD) → Buf (Elt F) (oLoc d)) (d : Dev nD) (c : Fin 2) (s : Fin 16) : sProp 𝕄 :=
  iprop(iPts x d c s ∗ bPts b d c s ∗ rowsPts d (f d) c s)

/-- The call runs on two cores of sixteen subcores. -/
theorem nCore_eq : (K (F := F)).nCore 0 = 2 := rfl
theorem nSub_eq : (K (F := F)).nSub 0 = 16 := rfl

/-- What the call carries: to each tile its shares and its rows of the result as they were, back the same with the rows
    at the gathered columns; to a SparseCore its sixteen tiles' together. -/
def P : (K (F := F)).Pay (nD := nD) (Val := Elt F) (Name := ℕ) (U := UU) where
  st := fun q d c => match q with | 0 => bigSep Finset.univ fun s : Fin ((K (F := F)).nSub 0) => tilePts x b o d (Fin.cast nCore_eq c) (Fin.cast nSub_eq s)
  dn := fun q d c => match q with | 0 => bigSep Finset.univ fun s : Fin ((K (F := F)).nSub 0) => tilePts x b (res x b) d (Fin.cast nCore_eq c) (Fin.cast nSub_eq s)
  go := fun q d c s => match q with | 0 => tilePts x b o d (Fin.cast nCore_eq c) (Fin.cast nSub_eq s)
  td := fun q d c s => match q with | 0 => tilePts x b (res x b) d (Fin.cast nCore_eq c) (Fin.cast nSub_eq s)
  x := fun _ _ => iprop(emp)

/-- What the call carries can be kept in an invariant. -/
instance P_storable : (P (F := F) x b o).IsStorable where
  st q d c := match q with
    | 0 => (inferInstance : BI.Storable (upEmb : UEmb _ 𝕄)
      (bigSep Finset.univ fun s : Fin ((K (F := F)).nSub 0) => tilePts x b o d (Fin.cast nCore_eq c) (Fin.cast nSub_eq s)))
  dn q d c := match q with
    | 0 => (inferInstance : BI.Storable (upEmb : UEmb _ 𝕄)
      (bigSep Finset.univ fun s : Fin ((K (F := F)).nSub 0) => tilePts x b (res x b) d (Fin.cast nCore_eq c) (Fin.cast nSub_eq s)))
  go q d c s := match q with
    | 0 => (inferInstance : BI.Storable (upEmb : UEmb _ 𝕄) (tilePts x b o d (Fin.cast nCore_eq c) (Fin.cast nSub_eq s)))
  td q d c s := match q with
    | 0 => (inferInstance : BI.Storable (upEmb : UEmb _ 𝕄) (tilePts x b (res x b) d (Fin.cast nCore_eq c) (Fin.cast nSub_eq s)))

end Cert.Proof.KernelIdeal

end
-- ==== Proof.KernelIdeal.Windows.lean ====
/-
  A tile's windows: the rows of the flat bank it gathers from and the rows of the result it writes, the semaphores and
  scratch it owns, and the value of a row it writes — a gather from row `d` of the flat bank by the index list is row `d`
  of the result, symbolically in the tile and in which of its four rows it is.
-/
module

public import proofs.«01_k».proof.Proof.KernelIdeal.Setup

@[expose] public section

noncomputable section

namespace Cert.Proof.KernelIdeal

open Cert.KernelIdeal Cert.KernelIdeal.Gen Cert.Proof.Value

open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (x : (d : Dev nD) → Buf (Elt F) (iLoc d)) (b : (d : Dev nD) → Buf (Elt F) (bLoc d)) (o : (d : Dev nD) → Buf (Elt F) (oLoc d))
variable (d : Dev nD) (L : grid0.Coords)

/-- The SparseCore and the subcore of grid point `L`: as the program's topology counts them, and as numbers below two and sixteen. -/
abbrev cV (L : grid0.Coords) : Fin τ.nSC := (L 0).castLE hcore0
abbrev jV (L : grid0.Coords) : Fin τ.nSub := (L 1).castLE hsub0
/-- The grid is two by sixteen. -/
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-! ## The tile's windows -/

/-- Row `r` of the tile's four, of the flat bank and of the result, as the tile slices them. -/
abbrev bRow (L : grid0.Coords) (r : Fin 4) : Memref sig .scVector .hbm S1000000 .f32 :=
  (bV.slice (Rect.unit (s := S128000000) (k0_off1 L (BitVec.ofNat 32 r.val)) S1000000.size (k0_off1_inb L r)) (fun _ => rfl)).slice
    (Rect.unit (s := S1000000) ![0] S1000000.size inb_S1000000_S1000000_0) (fun _ => rfl)
abbrev orowK (L : grid0.Coords) (r : Fin 4) : Rect S128x16384 := Rect.unit (s := S128x16384) (k0_off2 L (BitVec.ofNat 32 r.val)) S1x16384.size (k0_off2_inb L r)
abbrev oRow (L : grid0.Coords) (r : Fin 4) : Memref sig .scVector .hbm S16384 .f32 :=
  (oV.slice (orowK L r) (fun _ => rfl)).squeeze S16384 squeezes_S1x16384_S16384

/-- The row the tile slices is its `r`-th row of the result. -/
theorem orowK_eq (r : Fin 4) : orowK L r = orow (rowOf (cL L) (jL L) r) := by
  unfold orowK orow Rect.part Rect.block
  congr 1 <;> funext a
  · rw [k0_off2_eq]
    match a with
    | 0 => simp [Shape.partIx, Shape.partSize, rowOf]
    | 1 => simp [Shape.partIx, Shape.partSize]
  · match a with
    | 0 => simp [Shape.partSize]
    | 1 => simp [Shape.partSize]

/-- The tile's window on the result is its row's elements. -/
theorem set_oRow (r : Fin 4) : (oRow L r).view.set = oRowSet (rowOf (cL L) (jL L) r) := by
  show ((oV.view.slice (orowK L r)).reshape S16384 squeezes_S1x16384_S16384.numel_eq).set = (oV.view.slice (orow (rowOf (cL L) (jL L) r))).set
  rw [View.set_reshape]
  exact orowK_eq L r ▸ rfl

/-- Holding that row is holding it through the tile's window. -/
theorem pts_oRow (r : Fin 4) (f : Buf (Elt F) (oLoc d)) :
    (oPts d f (rowOf (cL L) (jL L) r) : sProp 𝕄) = ((oRow L r).view.loc (V d (cV L) (jV L)) ↦[(oRow L r).view.set]{fullShare} f) := by
  rw [set_oRow]

/-! ## The tile's own cells and buffers -/

/-- The gathers' semaphore and the five copies'. -/
abbrev cell (d : Dev nD) (c : Fin τ.nSC) (i : Fin τ.nSub) (k : Fin 6) : GSem nD τ sig :=
  (V d c i, .dma k)

/-- The six semaphores are the tile's own. -/
theorem cell_mem (k : Fin 6) : cell d (cV L) (jV L) k ∈ ownCells (V d (cV L) (jV L)) :=
  mem_ownCells.mpr ⟨rfl, by show (SemLoc.dma k : SemLoc sig).isScoped .scVector = true; revert k; decide⟩

/-- They are six different ones. -/
theorem cell_ne {j k : Fin 6} (h : j ≠ k) : cell d (cV L) (jV L) j ≠ cell d (cV L) (jV L) k := by
  intro e
  exact h (SemLoc.dma.inj (Prod.mk.inj e).2)

/-- The tile's other cells. -/
abbrev cellsRest (d : Dev nD) (L : grid0.Coords) : Finset (GSem nD τ sig) :=
  (((((ownCells (V d (cV L) (jV L))).erase (cell d (cV L) (jV L) 0)).erase (cell d (cV L) (jV L) 1)).erase (cell d (cV L) (jV L) 2)).erase
    (cell d (cV L) (jV L) 3)).erase (cell d (cV L) (jV L) 4) |>.erase (cell d (cV L) (jV L) 5)

/-- The six semaphores the kernel uses are among the tile's own. -/
theorem ownSems0_V :
    (ownSems0 (V d (cV L) (jV L)) : sProp 𝕄)
      = iprop(semVal (V d (cV L) (jV L), .dma cc0_scratch2.sem) 0 ∗ semVal (V d (cV L) (jV L), .dma cc0_scoped0.sem) 0
          ∗ semVal (V d (cV L) (jV L), .dma cc0_scoped1.sem) 0 ∗ semVal (V d (cV L) (jV L), .dma cc0_scoped2.sem) 0
          ∗ semVal (V d (cV L) (jV L), .dma cc0_scoped3.sem) 0 ∗ semVal (V d (cV L) (jV L), .dma cc0_scoped4.sem) 0
          ∗ bigSep (cellsRest d L) fun g => semVal g 0) := by
  have ne {j k : Fin 6} (h : j ≠ k) := cell_ne d L h
  have mem := cell_mem d L
  unfold SparseCore.Cfg.ownSems0 cellsRest
  rw [SparseCore.bigSep_erase' (mem 0),
    SparseCore.bigSep_erase' (Finset.mem_erase.mpr ⟨ne (by decide), mem 1⟩),
    SparseCore.bigSep_erase' (Finset.mem_erase.mpr ⟨ne (by decide), Finset.mem_erase.mpr ⟨ne (by decide), mem 2⟩⟩),
    SparseCore.bigSep_erase' (Finset.mem_erase.mpr ⟨ne (by decide), Finset.mem_erase.mpr ⟨ne (by decide), Finset.mem_erase.mpr ⟨ne (by decide), mem 3⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), mem 4⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), mem 5⟩⟩⟩⟩⟩)]
  rfl

/-- The two scratch buffers are among the tile's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- A tile's four rows, one after another. -/
theorem rowsPts_eq (f : Buf (Elt F) (oLoc d)) :
    (rowsPts d f (cL L) (jL L) : sProp 𝕄)
      = iprop(((oRow L 0).view.loc (V d (cV L) (jV L)) ↦[(oRow L 0).view.set]{fullShare} f)
          ∗ ((oRow L 1).view.loc (V d (cV L) (jV L)) ↦[(oRow L 1).view.set]{fullShare} f)
          ∗ ((oRow L 2).view.loc (V d (cV L) (jV L)) ↦[(oRow L 2).view.set]{fullShare} f)
          ∗ ((oRow L 3).view.loc (V d (cV L) (jV L)) ↦[(oRow L 3).view.set]{fullShare} f)) := by
  unfold rowsPts
  rw [show (Finset.univ : Finset (Fin 4)) = {0, 1, 2, 3} by decide, SparseCore.bigSep_insert' (by decide), SparseCore.bigSep_insert' (by decide),
    SparseCore.bigSep_insert' (by decide), bigSep_singleton, pts_oRow, pts_oRow, pts_oRow, pts_oRow]

/-! ## The row a tile writes -/

variable [FloatOps F]

/-- Element `n` of a tile's window on the flat bank: word `n` of its row. -/
theorem read_bRow (r : Fin 4) (g : Buf (Elt F) (bLoc d)) (y : S1000000.Idx) :
    (bRow L r).view.read (Elt F) g y = g (flatAt (word (rowOf (cL L) (jL L) r) (y 0))) := by
  rw [View.read_apply]
  refine congrArg g (funext fun a => Fin.ext ?_)
  match a with
  | 0 =>
    show k0_off1 L (BitVec.ofNat 32 r.val) 0 + 1 * (0 + 1 * (y 0).val) = (8 * (L 1).val + 4 * (L 0).val + r.val) * 1000000 + (y 0).val
    rw [k0_off1_eq]
    show 8000000 * (L 1).val + 4000000 * (L 0).val + 1000000 * r.val + 1 * (0 + 1 * (y 0).val) = _
    omega

/-- Element `j` of a tile's window on the result: column `j` of its row. -/
theorem read_oRow (r : Fin 4) (g : Buf (Elt F) (oLoc d)) (y : S16384.Idx) :
    (oRow L r).view.read (Elt F) g y = g (fun | 0 => rowOf (cL L) (jL L) r | 1 => y 0) := by
  rw [View.read_apply]
  refine congrArg g ?_
  show (orowK L r).emb (Shape.reshapeEquiv squeezes_S1x16384_S16384.numel_eq y) = _
  rw [show Shape.reshapeEquiv squeezes_S1x16384_S16384.numel_eq y = Fin.cons ⟨0, Nat.one_pos⟩ y from
    Shape.reshapeEquiv_cons_one (n := 1) (d := ![16384]) _ y]
  refine funext fun a => Fin.ext ?_
  match a with
  | 0 =>
    show k0_off2 L (BitVec.ofNat 32 r.val) 0 + 1 * 0 = 8 * (L 1).val + 4 * (L 0).val + r.val
    rw [k0_off2_eq]; rfl
  | 1 =>
    show k0_off2 L (BitVec.ofNat 32 r.val) 1 + 1 * (y 0).val = (y 0).val
    rw [k0_off2_eq]
    show 0 + 1 * (y 0).val = _
    omega

/-- The fetched list is the index list, whatever the scratch held before. -/
theorem list_eq (g : Buf (Elt F) ((V d (cV L) (jV L)).loc cc0_scratch0)) :
    sV.view.read (Elt F) (View.write (Elt F) sV.view g (iV.view.read (Elt F) (x d)) Finset.univ) = x d := by
  rw [View.write_whole_univ]
  simp only [Memref.view_whole, View.read_whole]

/-- Its words name columns. -/
theorem list_in (hx : InBank (x d)) (g : Buf (Elt F) ((V d (cV L) (jV L)).loc cc0_scratch0)) (p : S16384.Idx → Elt F .i32)
    (hp : p = iV.view.read (Elt F) (x d)) :
    ∀ y, (sV.view.read (Elt F) (View.write (Elt F) sV.view g p Finset.univ) y).toNat < S1000000.size gathers_S1000000_S16384.axis := by
  subst hp; intro y
  rw [list_eq]
  exact hx y

/-- The gather from row `r` by a list equal to the index list, at token `y`: the result's entry there. -/
theorem gathered (r : Fin 4) (l : S16384.Idx → Elt F .i32) (hl : l = x d)
    (hin : ∀ y, (l y).toNat < S1000000.size gathers_S1000000_S16384.axis) (y : S16384.Idx) :
    SparseCore.gatherPayload gathers_S1000000_S16384 ((bRow L r).view.read (Elt F) (b d))
      (SparseCore.rows (F := F) l rfl hin) y = (oRow L r).view.read (Elt F) (res x b d) y := by
  subst hl
  rw [read_oRow]
  unfold SparseCore.gatherPayload
  rw [read_bRow]
  show b d _ = b d _
  refine congrArg (fun k => b d (flatAt (word (rowOf (cL L) (jL L) r) k))) (Fin.ext ?_)
  refine Eq.trans ?_ (col_val (hin (tok (y 0)))).symm
  refine (congrArg Fin.val (Shape.Gathers.idx_axis gathers_S1000000_S16384 _ y)).trans ?_
  refine congrArg (fun j => (x d j).toNat) (S16384.rowMajor.symm_apply_eq.mpr (Fin.ext ?_))
  exact (Shape.rowMajor_val_one (tok (y 0))).symm

/-- Two contents that a window reads the same are the same to hold through it. -/
theorem pts_of_read (t : Thread nD τ) {sp : Space} {s : Shape} {e : EltTy} (v : View sig t.2.kind sp s e) (q : PosShare TreeShare)
    (f g : Buf (Elt F) (v.loc t)) (h : ∀ y, v.read (Elt F) f y = v.read (Elt F) g y) :
    (v.loc t ↦[v.set]{q} f : sProp 𝕄) = v.loc t ↦[v.set]{q} g :=
  pointsTo_congr fun i hi => by
    obtain ⟨y, -, rfl⟩ := Finset.mem_map.mp hi
    have e := h y
    rw [View.read_apply, View.read_apply] at e
    exact cast_inj _ |>.mp e

/-- What a window on the result holds once a payload equal to the result's row has been written through it. -/
theorem row_landed (r : Fin 4) (f : Buf (Elt F) (oLoc d)) (w : S16384.Idx → Elt F .f32)
    (hw : ∀ y, w y = (oRow L r).view.read (Elt F) (res x b d) y) :
    ((oRow L r).view.loc (V d (cV L) (jV L)) ↦[(oRow L r).view.set]{fullShare}
        (oRow L r).view.writes (Elt F) f [⟨Rect.whole S16384, w⟩] : sProp 𝕄)
      = ((oRow L r).view.loc (V d (cV L) (jV L)) ↦[(oRow L r).view.set]{fullShare} res x b d) := by
  refine pts_of_read (V d (cV L) (jV L)) (oRow L r).view _ _ _ fun y => ?_
  have e := View.read_writes_cons_emb (oRow L r).view f (Rect.whole S16384) w [] y
  rw [Rect.emb_whole_apply] at e
  exact e.trans (hw y)

/-- The row scratch just gathered into, read back: the payload gathered, whatever was gathered there before. -/
theorem scratch_read (f : Buf (Elt F) ((V d (cV L) (jV L)).loc cc0_scratch1)) (w : S16384.Idx → Elt F .f32)
    (l : List (View.Piece (Elt F) S16384 .f32)) (y : S16384.Idx) :
    rV.view.read (Elt F) (rV.view.writes (Elt F) f (⟨Rect.whole S16384, w⟩ :: l)) y = w y := by
  have e := View.read_writes_cons_emb rV.view f (Rect.whole S16384) w l y
  rwa [Rect.emb_whole_apply] at e

end Cert.Proof.KernelIdeal

end
-- ==== Proof.KernelIdeal.Tile.lean ====
/-
  One tile's run: it fetches the index list, and for each of its four rows gathers from that row of the flat bank the
  words the list names and writes them out as the row of the result. Its shares of the arrays come back unchanged, its rows
  of the result at the gathered columns, its scratch and its semaphores as the launch wants them.
-/
module

public import proofs.«01_k».proof.Proof.KernelIdeal.Windows

@[expose] public section

noncomputable section

namespace Cert.Proof.KernelIdeal

open Cert.KernelIdeal Cert.KernelIdeal.Gen Cert.Proof.Value

open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (x : (d : Dev nD) → Buf (Elt F) (iLoc d)) (b : (d : Dev nD) → Buf (Elt F) (bLoc d)) (o : (d : Dev nD) → Buf (Elt F) (oLoc d))
variable (d : Dev nD) (L : grid0.Coords)

variable [FloatOps F]

set_option maxHeartbeats 4000000 in
/-- A tile's run, from its shares and its rows of the result as they were to the same with the rows at the gathered columns. -/
theorem tile_body (hF : (K (F := F)).Facts) (hx : InBank (x d)) (O : CellTallies nD τ sig (HIx 1)) (W : Waits sig (HIx 1)) (hO : ∀ g, O g none = 0) :
    iprop(levAts (K (F := F)).L (K (F := F)).lev ∗ emp ∗ tilePts x b o d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_rows L iV (Memref.isWhole_whole _) bV (Memref.isWhole_whole _) oV (Memref.isWhole_whole _)
            sV (Memref.isWhole_whole _) rV (Memref.isWhole_whole _) cc0_scratch2 cc0_scoped0 cc0_scoped1 cc0_scoped2 cc0_scoped3 cc0_scoped4)
          fun _ => iprop(tilePts x b (res x b) d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_rows_eq_skeleton]; unfold cc0__gather_rows_skel
  rw [k0_part2_eq_skeleton]; unfold k0_part2_skel
  rw [k0_part1_eq_skeleton]; unfold k0_part1_skel
  rw [(K (F := F)).scopedBufs_V hF d (cV L) (jV L), SparseCore.Cfg.scopedSems0_V (Val := Elt F) d (cV L) (jV L), ownSems0_V, ownBufs_V]
  unfold tilePts
  rw [rowsPts_eq, rowsPts_eq]
  iintro ⟨#Hlv, -, ⟨Hi, Hb, Ho0, Ho1, Ho2, Ho3⟩, ⟨⟨%fs, Hs⟩, ⟨%fr, Hr⟩, Hbufs⟩, ⟨Hg, Hc0, Hc1, Hc2, Hc3, Hc4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (iPts x d (cL L) (jL L) : sProp 𝕄) = (iV.view.loc (V d (cV L) (jV L)) ↦{shq (cL L) (jL L)} x d) from rfl)) $$ Hi
  ihave Hb' := (Entails.of_eq (show (bPts b d (cL L) (jL L) : sProp 𝕄) = (bV.view.loc (V d (cV L) (jV L)) ↦{shq (cL L) (jL L)} b d) from rfl)) $$ Hb
  ihave Hs' := (Entails.of_eq (show ((V d (cV L) (jV L)).loc cc0_scratch0 ↦{fullShare} fs : sProp 𝕄) = (sV.view.loc (V d (cV L) (jV L)) ↦{fullShare} fs) from rfl)) $$ Hs
  ihave Hr' := (Entails.of_eq (show ((V d (cV L) (jV L)).loc cc0_scratch1 ↦{fullShare} fr : sProp 𝕄) = (rV.view.loc (V d (cV L) (jV L)) ↦{fullShare} fr) from rfl)) $$ Hr
  sl_exec
  have hin := list_in x d L hx fs (tile_body.sl.dma0 x d) rfl
  sl_exec
  have hl := list_eq x d L fs
  -- each row of the result at the gathered columns
  have row (r : Fin 4) (w w' : S16384.Idx → Elt F .f32) (l : List (View.Piece (Elt F) S16384 .f32))
      (hw : w = SparseCore.gatherPayload gathers_S1000000_S16384 ((bRow L r).view.read (Elt F) (b d)) (SparseCore.rows (F := F) _ rfl hin))
      (hw' : w' = rV.view.read (Elt F) (rV.view.writes (Elt F) fr (⟨Rect.whole S16384, w⟩ :: l))) :=
    row_landed x b d L r (o d) w' fun y => by
      rw [hw', scratch_read, hw]; exact gathered x b d L r _ hl hin y
  sl_step
  isplitl [Hi' Hb' Ho0 Ho1 Ho2 Ho3]
  · isplitl [Hi']; · iexact Hi'
    isplitl [Hb']; · iexact Hb'
    isplitl [Ho0]; · iapply (Entails.of_eq (row 0 (tile_body.sl.gather0 x b d L fs hin) (tile_body.sl.dma0_1 x b d L fs fr hin) _ rfl rfl)); iexact Ho0
    isplitl [Ho1]; · iapply (Entails.of_eq (row 1 (tile_body.sl.gather2 x b d L fs hin) (tile_body.sl.dma0_2 x b d L fs fr hin) _ rfl rfl)); iexact Ho1
    isplitl [Ho2]; · iapply (Entails.of_eq (row 2 (tile_body.sl.gather4 x b d L fs hin) (tile_body.sl.dma0_3 x b d L fs fr hin) _ rfl rfl)); iexact Ho2
    iapply (Entails.of_eq (row 3 (tile_body.sl.gather6 x b d L fs hin) (tile_body.sl.dma0_4 x b d L fs fr hin) _ rfl rfl)); iexact Ho3
  isplitl [Hs' Hr' Hbufs]
  · isplitl [Hs']; · iexists _; iexact Hs'
    isplitl [Hr']; · iexists _; iexact Hr'
    iexact Hbufs
  isplitl [Hg Hc0 Hc1 Hc2 Hc3 Hc4 Hsems]
  · isplitl [Hg]; · iexact Hg
    isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap; · iexact HO
  ipureintro; intro p hp
  simp only [Finset.mem_insert] at hp
  rcases hp with rfl | rfl | rfl | rfl | rfl | rfl | rfl | rfl | rfl | hp
  all_goals first | exact .inl hp | exact .inr rfl

end Cert.Proof.KernelIdeal

end
-- ==== Proof.KernelIdeal.Deal.lean ====
/-
  The whole arrays against the tiles' shares of them: the index list and the flat bank are the thirty-two tiles' read
  shares at once, the result its hundred and twenty-eight rows, four to a tile. What the call is handed is therefore the
  three arrays as they stand, and what it gives back the same three with the result at the gathered columns.
-/
module

public import proofs.«01_k».proof.Proof.KernelIdeal.Setup

@[expose] public section

noncomputable section

namespace Cert.Proof.KernelIdeal

open Cert.KernelIdeal Cert.KernelIdeal.Gen Cert.Proof.Value

open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (x : (d : Dev nD) → Buf (Elt F) (iLoc d)) (b : (d : Dev nD) → Buf (Elt F) (bLoc d)) (o : (d : Dev nD) → Buf (Elt F) (oLoc d))

/-! ## The tiles, and the rows, counted once each -/

/-- Every tile has its own number below thirty-two, and every such number a tile. -/
theorem wid_bijective : Function.Bijective fun p : Fin 2 × Fin 16 => wid p.1 p.2 := by
  refine (Fintype.bijective_iff_injective_and_card _).mpr ⟨fun p q h => ?_, by simp⟩
  have h' : 2 * p.2.val + p.1.val = 2 * q.2.val + q.1.val := congrArg Fin.val h
  have := p.1.isLt; have := q.1.isLt
  exact Prod.ext (Fin.ext (by omega)) (Fin.ext (by omega))

/-- Every row of the result is one of one tile's four, and of no other's. -/
theorem rowOf_bijective : Function.Bijective fun p : Fin 2 × Fin 16 × Fin 4 => rowOf p.1 p.2.1 p.2.2 := by
  refine (Fintype.bijective_iff_injective_and_card _).mpr ⟨fun p q h => ?_, by simp⟩
  have h' : 8 * p.2.1.val + 4 * p.1.val + p.2.2.val = 8 * q.2.1.val + 4 * q.1.val + q.2.2.val := congrArg Fin.val h
  have := p.1.isLt; have := q.1.isLt; have := p.2.2.isLt; have := q.2.2.isLt
  exact Prod.ext (Fin.ext (by omega)) (Prod.ext (Fin.ext (by omega)) (Fin.ext (by omega)))

/-- A read-only array held whole is every tile's share of it. -/
theorem pts_shares {ℓ : Loc nD τ sig} (f : Buf (Elt F) ℓ) :
    (ℓ ↦{fullShare} f : sProp 𝕄) = bigSep Finset.univ fun c : Fin 2 => bigSep Finset.univ fun s : Fin 16 => ℓ ↦{shq c s} f := by
  rw [ShareLeaves.pointsTo_leaves Finset.univ f 5 fullShare,
    bigSep_univ_equiv (Equiv.ofBijective _ wid_bijective) (fun i : Fin (2 ^ 5) => (ℓ ↦{ShareLeaves.leaf 5 fullShare i} f : sProp 𝕄)),
    bigSep_univ_prod]
  rfl

/-- The elements of row `k`, through the whole array's view, are the row's own. -/
theorem oRowSet_eq (k : Fin 128) : oRowSet k = (orow k).set := by
  show ((View.whole (main_v1_scv : Ref sig .scVector)).slice (orow k)).set = _
  rw [View.set_slice]; exact Finset.map_refl

/-- The result held whole is every tile's four rows of it. -/
theorem pts_rows (d : Dev nD) (f : Buf (Elt F) (oLoc d)) :
    (oLoc d ↦{fullShare} f : sProp 𝕄) = bigSep Finset.univ fun c : Fin 2 => bigSep Finset.univ fun s : Fin 16 => rowsPts d f c s := by
  have hd : ∀ i ∈ (Finset.univ : Finset (Fin 128)), ∀ j ∈ (Finset.univ : Finset (Fin 128)), i ≠ j → Disjoint (oRowSet i) (oRowSet j) :=
    fun i _ j _ h => by rw [oRowSet_eq, oRowSet_eq]; exact Rect.part_disjoint odiv h
  have hc : (Finset.univ : Finset (Fin 128)).biUnion oRowSet = Finset.univ :=
    (Finset.biUnion_congr rfl fun k _ => oRowSet_eq k).trans (Rect.biUnion_part odiv)
  have h := pointsTo_biUnion (Val := Elt F) (Ix := HIx 1) (Name := ℕ) (U := UU) (Lvl := ℕ) (q := fullShare) (f := f) Finset.univ (ℓ := oLoc d) oRowSet hd
  rw [hc] at h
  refine h.trans ?_
  rw [bigSep_univ_equiv (Equiv.ofBijective _ rowOf_bijective) (fun k : Fin 128 => (oLoc d ↦[oRowSet k]{fullShare} f : sProp 𝕄)), bigSep_univ_prod]
  exact bigSep_congr fun c _ => bigSep_univ_prod fun sr : Fin 16 × Fin 4 => (oPts d f (rowOf c sr.1 sr.2) : sProp 𝕄)

/-- The three arrays held whole are every tile's part of them. -/
theorem deal (f : (d : Dev nD) → Buf (Elt F) (oLoc d)) (d : Dev nD) :
    (iprop((iLoc d ↦{fullShare} x d) ∗ (bLoc d ↦{fullShare} b d) ∗ oLoc d ↦{fullShare} f d) : sProp 𝕄)
      = bigSep Finset.univ fun c : Fin 2 => bigSep Finset.univ fun s : Fin 16 => tilePts x b f d c s := by
  rw [pts_shares (x d), pts_shares (b d), pts_rows, ← bigSep_sep', ← bigSep_sep']
  refine bigSep_congr fun c _ => ?_
  rw [← bigSep_sep', ← bigSep_sep']

/-! ## What the call is handed and gives back -/

/-- What the call is handed: the three arrays as they stand. -/
theorem st_eq (d : Dev nD) : (bigSep Finset.univ fun c : Fin ((K (F := F)).nCore 0) => (P x b o).st 0 d c)
    = (iprop((iLoc d ↦{fullShare} x d) ∗ (bLoc d ↦{fullShare} b d) ∗ oLoc d ↦{fullShare} o d) : sProp 𝕄) := (deal x b o d).symm

/-- What the call gives back: the same, the result at the gathered columns. -/
theorem dn_eq (d : Dev nD) : (bigSep Finset.univ fun c : Fin ((K (F := F)).nCore 0) => (P x b o).dn 0 d c)
    = (iprop((iLoc d ↦{fullShare} x d) ∗ (bLoc d ↦{fullShare} b d) ∗ oLoc d ↦{fullShare} res x b d) : sProp 𝕄) := (deal x b (res x b) d).symm

/-- A SparseCore's part is its tiles' parts, before and after. -/
theorem vecSplit : (K (F := F)).VecSplit' (P x b o) 0 := by
  intro d c
  show (bigSep Finset.univ fun s : Fin ((K (F := F)).nSub 0) => (P x b o).go 0 d c s) ⊢ |={Set.univ}=> iprop(
    (bigSep Finset.univ fun s : Fin ((K (F := F)).nSub 0) => (P x b o).go 0 d c s)
      ∗ ((bigSep Finset.univ fun s : Fin ((K (F := F)).nSub 0) => (P x b o).td 0 d c s)
        -∗ bigSep Finset.univ fun s : Fin ((K (F := F)).nSub 0) => (P x b o).td 0 d c s))
  iintro H; imodintro
  isplitl [H]; · iexact H
  iintro H; iexact H

end Cert.Proof.KernelIdeal

end
-- ==== Proof.KernelIdeal.Run.lean ====
/-
  The program's run: the bank is laid out flat, the call is handed the index list, the flat bank and the result as they
  stand, and every run ends with the result at the gathered columns, both arguments as they were, and every semaphore at
  zero. Generic in the float values; only the index list's range is asked for.
-/
module

public import proofs.«01_k».proof.Proof.KernelIdeal.Tile
public import proofs.«01_k».proof.Proof.KernelIdeal.Deal

@[expose] public section

noncomputable section

namespace Cert.Proof.KernelIdeal

open Cert.KernelIdeal Cert.KernelIdeal.Gen Cert.Proof.Value

open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo

variable {F : FTy → Type}

local notation "𝕄" => MT nD τ sig (HIx 1) (Elt F) ℕ UU ℕ

variable [FloatOps F]
variable (m : (ℓ : Loc nD τ sig) → Buf (Elt F) ℓ) (ρ : Dev nD → PrngReg)

/-- The index list at launch, the bank laid out flat, the result as the launch finds it. -/
abbrev x₀ (d : Dev nD) : Buf (Elt F) (iLoc d) := m (iLoc d)
def b₀ (d : Dev nD) : Buf (Elt F) (bLoc d) := shapeCast S128000000 (m (aLoc d)) shapeCasts_S128x1000000_S128000000
abbrev o₀ (d : Dev nD) : Buf (Elt F) (oLoc d) := m (oLoc d)
/-- What the call carries in this launch, and what it leaves the result at. -/
abbrev Pm : (K (F := F)).Pay (nD := nD) (Val := Elt F) (Name := ℕ) (U := UU) := P (x₀ m) (b₀ m) (o₀ m)
abbrev resm (d : Dev nD) : Buf (Elt F) (oLoc d) := res (x₀ m) (b₀ m) d

/-! ## The tile's obligation -/

/-- A grid point from its two coordinates. -/
def point (c : Fin (grid0.bound 0)) (s : Fin (grid0.bound 1)) : grid0.Coords :=
  fun | 0 => c | 1 => s | ⟨_ + 2, h⟩ => absurd h (Nat.not_lt.2 (Nat.le_add_left _ _))

/-- What a tile runs: the kernel at its grid point, on the arrays and its scratch. -/
theorem defs₀_tile (c : Fin τ.nSC) (s : Fin τ.nSub) :
    defs₀ (F := F) (.scVector c s) 0 ()
      = SparseCore.onTile hcore0 hsub0 (fun c s => cc0__gather_rows (point c s)
          iV (Memref.isWhole_whole _) bV (Memref.isWhole_whole _) oV (Memref.isWhole_whole _)
          sV (Memref.isWhole_whole _) rV (Memref.isWhole_whole _) cc0_scratch2 cc0_scoped0 cc0_scoped1 cc0_scoped2 cc0_scoped3 cc0_scoped4) ⟨⟩ c s := rfl

/-- The waits a tile records are its own, so they are among those the call allows. -/
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  refine sep_mono_right (sep_mono_right (sep_mono_right ?_))
  iintro ⟨%W', %hW', HO⟩
  iexists W'; isplitr
  · ipureintro; exact fun p hp => (hW' p hp).imp_right Or.inl
  · iexact HO

set_option maxRecDepth 16384 in
/-- Every tile meets what the call asks of it. -/
theorem tileObl (hx : ∀ d, InBank (x₀ m d)) : (K (F := F)).TileObl (D (F := F)) 𝒱 (Pm m) v₀ 0 := by
  intro d c i O W hO _ _
  simp only [show (Pm m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body (x₀ m) (b₀ m) (o₀ m) d (point ⟨_, hci.1⟩ ⟨_, hci.2⟩) facts (hx d) O W hO).trans (wp_mono frame _ _ fun _ => waits_weaken)

/-! ## The launch's ghost state -/

/-- The ghost state the launch starts from: the handshakes' and no counter. -/
def u₀ : UU := (initOf (K (F := F)).hsCells (K (F := F)).hsToks, 1)

/-- The ghost state gives the handshakes theirs; no thread needs more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (Pm m).x q t) := by
  unfold u₀
  have hd : (bigSep Finset.univ fun _ : Dev nD => iprop(emp)) = (iprop(emp) : sProp 𝕄) := bigSep_emp_const _
  have he : (bigSep Finset.univ fun t : Thread nD τ => bigSep Finset.univ fun q : Fin 1 => (Pm (F := F) m).x q t) = (iprop(emp) : sProp 𝕄) :=
    (bigSep_congr fun _ _ => bigSep_univ_of_subsingleton (0 : Fin 1)).trans (bigSep_emp_const _)
  rw [he, hd]
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The host program -/

abbrev iRef : DevRef τ sig := Proc.devRef .tc (main_arg0 : Ref sig .tc)
abbrev aRef : DevRef τ sig := Proc.devRef .tc (main_arg1 : Ref sig .tc)
abbrev bRef : DevRef τ sig := Proc.devRef .tc (main_v0 : Ref sig .tc)
abbrev oRef : DevRef τ sig := Proc.devRef .tc (main_v1 : Ref sig .tc)
abbrev arrays : Finset (DevRef τ sig) := {iRef, aRef, bRef, oRef}

/-- Laying the bank out flat. -/
abbrev opFlat : HloOp τ sig (Elt F) := StableHlo.reshape main_arg1 main_v0 (rfl : (.f32 : EltTy) = .f32) shapeCasts_S128x1000000_S128000000

/-- Holding the four arrays is holding each. -/
theorem held_arrays (d : Dev nD) (W : Valuation τ sig (Elt F)) :
    (held (SparseCore.T d) arrays W : sProp 𝕄)
      = iprop((iLoc d ↦{fullShare} W iRef) ∗ (aLoc d ↦{fullShare} W aRef) ∗ (bLoc d ↦{fullShare} W bRef) ∗ oLoc d ↦{fullShare} W oRef) := by
  unfold held arrays
  rw [SparseCore.bigSep_insert' (by decide), SparseCore.bigSep_insert' (by decide), SparseCore.bigSep_insert' (by decide), bigSep_singleton]

/-- The launch's contents. -/
def V₀ (d : Dev nD) : Valuation τ sig (Elt F) := fun r => m (d, r)

/-- The buffers the launch gives the host are the four arrays, at the launch's contents. -/
theorem unscoped_arrays (d : Dev nD) :
    (unscopedBufs d (fun r => m ((SparseCore.T d).loc r)) : sProp 𝕄) = held (SparseCore.T d) arrays (V₀ m d) := by
  rw [held_arrays]
  unfold unscopedBufs
  rw [show (Finset.univ.filter fun r : Ref sig .tc => ¬ r.isScoped) = {main_arg0, main_arg1, main_v0, main_v1} by decide,
    SparseCore.bigSep_insert' (by decide), SparseCore.bigSep_insert' (by decide), SparseCore.bigSep_insert' (by decide), bigSep_singleton]
  rfl

/-- The four arrays once the bank is laid out flat. -/
theorem held_flat (d : Dev nD) :
    (held (SparseCore.T d) arrays ((opFlat (F := F)).result (V₀ m d)) : sProp 𝕄)
      = iprop((iLoc d ↦{fullShare} x₀ m d) ∗ (aLoc d ↦{fullShare} m (aLoc d)) ∗ (bLoc d ↦{fullShare} b₀ m d) ∗ oLoc d ↦{fullShare} o₀ m d) := by
  rw [held_arrays, (opFlat (F := F)).result_of_not_mem _ (show iRef ∉ ({bRef} : Finset (DevRef τ sig)) by decide),
    (opFlat (F := F)).result_of_not_mem _ (show aRef ∉ ({bRef} : Finset (DevRef τ sig)) by decide),
    (opFlat (F := F)).result_of_not_mem _ (show oRef ∉ ({bRef} : Finset (DevRef τ sig)) by decide),
    show (opFlat (F := F)).result (V₀ m d) bRef = b₀ m d from StableHlo.reshape_result main_arg1 main_v0 _ _ _ _ _]
  rfl

/-- Laying the bank out flat touches the four arrays only. -/
theorem flat_arrays : (opFlat (F := F)).bufs ⊆ arrays := show ({aRef, bRef} : Finset (DevRef τ sig)) ⊆ arrays by decide

/-- What the host keeps to the end: both arguments as they were, the result at the gathered columns. -/
abbrev FIN (d : Dev nD) : sProp 𝕄 := iprop((iLoc d ↦{fullShare} x₀ m d) ∗ (aLoc d ↦{fullShare} m (aLoc d)) ∗ oLoc d ↦{fullShare} resm m d)

/-- The host's run: it lays the bank out flat, makes the call, and ends with what it keeps. -/
theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_arrays]
  simp only [main, wp_bind, wp_pure]
  iintro ⟨#Hctx, Hst, ⟨Hb, Hheld, Hts, -⟩, -⟩
  iapply (wp_hlo_within 𝒱 (SparseCore.T d) none Set.univ (op := opFlat) (S := arrays) flat_arrays (V := V₀ m d)) $$ [Hb Hheld]
  · isplitl [Hb] <;> iassumption
  iintro ⟨Hb, Hheld⟩
  rw [wp_ret]; imodintro
  ihave Hh := (Entails.of_eq (held_flat (F := F) m d)) $$ Hheld
  icases Hh with ⟨Hi, Ha, Hf, Ho⟩
  iapply ((K (F := F)).wp_run (D (F := F)) 𝒱 (EH := EH) (P := Pm m) κ d 0) $$ [Hst Hi Ha Hf Ho Hb Hts]
  isplitr; · iexact Hctx
  isplitl [Hst]; · iexact Hst
  isplitl [Hi Hf Ho]
  · rw [st_eq]
    isplitl [Hi]; · iexact Hi
    isplitl [Hf]; · iexact Hf
    iexact Ho
  iintro ⟨Hst, Hdn⟩
  ihave Hdn' := (Entails.of_eq (dn_eq (x₀ m) (b₀ m) (o₀ m) d)) $$ Hdn
  icases Hdn' with ⟨Hi, -, Ho⟩
  imodintro
  isplitl [Hst]; · iexact Hst
  isplitr [Hb Hts]
  · isplitl [Hi]; · iexact Hi
    isplitl [Ha]; · iexact Ha
    iexact Ho
  isplitl [Hb] <;> iassumption

/-! ## The run -/

/-- What a device's final memory holds. -/
def fq (d : Dev nD) (s : Phys nD τ sig (Elt F)) : Prop :=
  s.mem.mem (oLoc d) = resm m d ∧ s.mem.mem (iLoc d) = x₀ m d ∧ s.mem.mem (aLoc d) = m (aLoc d)

/-- An array held whole at some contents is at them in memory. -/
theorem mem_of_pts (s : Phys nD τ sig (Elt F)) {ℓ : Loc nD τ sig} (f : Buf (Elt F) ℓ) :
    iprop((ℓ ↦{fullShare} f) ∗ SI s) ⊢ (iprop(⌜s.mem.mem ℓ = f⌝ ∗ SI s) : sProp 𝕄) := by
  iintro ⟨H, HSI⟩
  ihave H' := (persistent_entails_right (SI_pointsTo_agree (st := s) (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

set_option maxRecDepth 16384 in
/-- What the host keeps says what the final memory holds. -/
theorem hfin (d : Dev nD) (s : Phys nD τ sig (Elt F)) : iprop(FIN m d ∗ SI s) ⊢ (⌜fq m d s⌝ : sProp 𝕄) := by
  iintro ⟨⟨Hi, Ha, Ho⟩, HSI⟩
  ihave H := (mem_of_pts s (x₀ m d)) $$ [Hi HSI]
  · isplitl [Hi] <;> iassumption
  icases H with ⟨%hi, HSI⟩
  ihave H := (mem_of_pts s (m (aLoc d))) $$ [Ha HSI]
  · isplitl [Ha] <;> iassumption
  icases H with ⟨%ha, HSI⟩
  ihave H := (mem_of_pts s (resm m d)) $$ [Ho HSI]
  · isplitl [Ho] <;> iassumption
  icases H with ⟨%ho, -⟩
  ipureintro; exact ⟨ho, hi, ha⟩

/-- Every run ends with the result at the gathered columns, both arguments unchanged, every semaphore at zero. -/
theorem run [∀ e, Nonempty (Elt F e)] (hx : ∀ d, InBank (x₀ m d)) :
    θ_run (Cert.KernelIdeal.defs (F := F)) (Cert.KernelIdeal.threads (F := F)) ⟨m, fun _ => 0, ρ⟩ fun r =>
      (∀ d : Dev nD, r.2.mem (oLoc d) = resm m d ∧ r.2.mem (iLoc d) = x₀ m d ∧ r.2.mem (aLoc d) = m (aLoc d)) ∧ r.2.sem = fun _ => 0 :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl m hx)
    (fun q _ => match q with | 0 => SparseCore.Cfg.VecSplit.of_plain (vecSplit (x₀ m) (b₀ m) (o₀ m)))
    m ρ main (fun _ => iprop(emp)) (FIN m) (u₀ (F := F)) (sep_elim_left.trans (hu₀ m)) (hmain m ρ) (fq m) (hfin m)
    (fun r => (∀ d : Dev nD, r.2.mem (oLoc d) = resm m d ∧ r.2.mem (iLoc d) = x₀ m d ∧ r.2.mem (aLoc d) = m (aLoc d)) ∧ r.2.sem = fun _ => 0)
    (fun _ h hz => ⟨h, hz⟩)

end Cert.Proof.KernelIdeal

end
-- ==== Proof.KernelIdeal.Result.lean ====
/-
  The program's run, its result stated over the bank as the argument holds it.
-/
module

public import proofs.«01_k».proof.Proof.KernelIdeal.Run

@[expose] public section

noncomputable section

namespace Cert.Proof.KernelIdeal

open Cert.KernelIdeal Cert.KernelIdeal.Gen Cert.Proof.Value
open Idealize.ShloMosaic Idealize.SL.Sem

variable {F : FTy → Type} [FloatOps F]
variable (m : (ℓ : Loc nD τ sig) → Buf (Elt F) ℓ) (ρ : Dev nD → PrngReg)

/-- Every run ends with the result at the gathered columns of the bank, both arguments unchanged, every semaphore at zero. -/
theorem gathers [∀ e, Nonempty (Elt F e)] (hx : ∀ d, InBank (x₀ m d)) :
    θ_run (Cert.KernelIdeal.defs (F := F)) (Cert.KernelIdeal.threads (F := F)) ⟨m, fun _ => 0, ρ⟩ fun r =>
      (∀ d : Dev nD, r.2.mem (oLoc d) = picked (F := F) (m (iLoc d)) (m (aLoc d)) ∧ r.2.mem (iLoc d) = m (iLoc d) ∧ r.2.mem (aLoc d) = m (aLoc d))
        ∧ r.2.sem = fun _ => 0 :=
  (θ_run _ _ _).mono (fun _ h => ⟨fun d => ⟨(h.1 d).1.trans (pickedFlat_flat (F := F) (m (iLoc d)) (m (aLoc d)) shapeCasts_S128x1000000_S128000000), (h.1 d).2⟩, h.2⟩)
    (run m ρ hx)

end Cert.Proof.KernelIdeal

end
-- ==== Proof.Taken.lean ====
/-
  What the reference's operations compute of in-range indices. An index below zero is moved up by the bank's width, which
  touches none in range; the gather then reads, for each index, that column of the bank; and the entries whose index is
  out of range are replaced by a constant, which again touches none. So the result is the gathered columns. Generic in
  the float values, and in the proofs the operations carry.
-/
module

public import proofs.«01_k».proof.Proof.InRange

@[expose] public section

noncomputable section

namespace Cert.Proof.Value

open Idealize.ShloMosaic

variable {F : FTy → Type}

/-- The indices as a one-column table, and the shapes of the bounds they are compared with. -/
abbrev TokCol : Shape := ⟨2, ![16384, 1]⟩
abbrev Sc : Shape := ⟨0, ![]⟩
abbrev One : Shape := ⟨1, ![1]⟩
abbrev OneOne : Shape := ⟨2, ![1, 1]⟩

/-- The entry of the one-column table that holds the `j`-th index. -/
abbrev tokCol (j : Fin 16384) : TokCol.Idx := fun | 0 => j | 1 => (0 : Fin 1)

/-- The indices, those below zero moved up by the bank's width. -/
def lifted (x : IVec Tok 32) (h : Sc.BroadcastsInDim Tok ![]) : IVec Tok 32 :=
  select (cmpi .slt x (broadcastInDim Tok ![] h (constantI Sc 32 0#32))) (addi x (broadcastInDim Tok ![] h (constantI Sc 32 1000000#32))) x

/-- In-range indices are not moved. -/
theorem lifted_eq {x : IVec Tok 32} (hx : InBank x) (h : Sc.BroadcastsInDim Tok ![]) : lifted x h = x := by
  funext j
  have hb : (x j).slt 0#32 = false := by
    rw [BitVec.slt_eq_decide, toInt_of_lt (hx j)]
    exact decide_eq_false (by simp)
  have hc : IntOp.cmpi .slt (x j) 0#32 = 0#1 := by simp [IntOp.cmpi, hb]
  show Scalar.select (IntOp.cmpi .slt (x j) 0#32) _ (x j) = x j
  rw [hc]; rfl

/-- The one-column table's entries are the indices. -/
theorem column_at (x : IVec Tok 32) (h : Tok.BroadcastsInDim TokCol ![0]) (i : TokCol.Idx) :
    broadcastInDim TokCol ![0] h x i = x (tok (i 0)) := by
  refine congrArg x (funext fun a => ?_)
  obtain rfl : a = 0 := Subsingleton.elim _ _
  rfl

/-- Which indices are in range, as the reference asks it of the one-column table. -/
def inside (i : IVec TokCol 32) (h₀ : Sc.BroadcastsInDim TokCol ![]) (h₁ : One.BroadcastsInDim OneOne ![1])
    (h₂ : OneOne.BroadcastsInDim TokCol ![0, 1]) (hr : TokCol.ReducesTo [1] Tok) (hu : 0 < Sc.numel) : IVec Tok 1 :=
  Host.reduce IntOp.andi (andi (cmpi .sge i (broadcastInDim TokCol ![] h₀ (constantI Sc 32 0#32)))
    (cmpi .sle i (broadcastInDim TokCol ![0, 1] h₂ (broadcastInDim OneOne ![1] h₁ (constantI One 32 999999#32))))) (constantI Sc 1 1#1) hr hu

/-- Every in-range index passes. -/
theorem inside_eq {i : IVec TokCol 32} (hi : ∀ k, (i k).toNat < 1000000) (h₀ : Sc.BroadcastsInDim TokCol ![])
    (h₁ : One.BroadcastsInDim OneOne ![1]) (h₂ : OneOne.BroadcastsInDim TokCol ![0, 1]) (hr : TokCol.ReducesTo [1] Tok) (hu : 0 < Sc.numel) (j : Tok.Idx) :
    inside i h₀ h₁ h₂ hr hu j = 1#1 := by
  refine Host.reduce_andi_one _ _ hr hu j rfl fun k => ?_
  have hlo : (0#32 : BitVec 32).sle (i k) = true := by
    rw [BitVec.sle_eq_decide, toInt_of_lt (hi k)]
    exact decide_eq_true (by simp)
  have hhi : (i k).sle 999999#32 = true := by
    have := hi k
    rw [BitVec.sle_eq_decide, toInt_of_lt this, toInt_of_lt (v := 999999#32) (by decide)]
    refine decide_eq_true ?_
    simp only [BitVec.toNat_ofNat]
    omega
  show IntOp.andi (IntOp.cmpi .sge (i k) 0#32) (IntOp.cmpi .sle (i k) 999999#32) = 1#1
  simp [IntOp.cmpi, IntOp.andi, hlo, hhi]

/-- The reference's gather: whole columns of the bank, each named by one entry of the one-column table. -/
abbrev columns (wf : GatherDims.WF Bank TokCol Out [0] [1] [] [1] [] 1 ![128, 1]) : GatherDims Bank TokCol Out where
  offsetDims := [0]
  collapsedSliceDims := [1]
  operandBatchingDims := []
  startIndicesBatchingDims := []
  startIndexMap := [1]
  indexVectorDim := 1
  sliceSizes := ![128, 1]
  wf := wf

/-- The gather reads entry `(d, j)` off row `d` at the column the `j`-th index names. -/
theorem columns_at (wf : GatherDims.WF Bank TokCol Out [0] [1] [] [1] [] 1 ![128, 1]) (b : Bank.Idx → F .f32) (i : IVec TokCol 32)
    (y : Out.Idx) (hi : (i (tokCol (y 1))).toNat < 1000000) :
    Host.gather (columns wf) b i y = b (bankAt (y 0) (col (i (tokCol (y 1))))) := by
  have hrow : (columns wf).start y i 0 + (columns wf).batchCoord y 0 + (columns wf).offCoord y 0 = (y 0).val := by
    rw [(columns wf).batchCoord_eq_zero y 0 List.not_mem_nil]
    unfold GatherDims.start
    rw [dif_neg fun h => absurd (List.mem_singleton.1 h) (by decide), Nat.zero_add]
    rfl
  have hcol : (columns wf).start y i 1 + (columns wf).batchCoord y 1 + (columns wf).offCoord y 1 = (col (i (tokCol (y 1)))).val := by
    have hm : (1 : Fin 2) ∈ (columns wf).startIndexMap := List.mem_singleton.2 rfl
    rw [(columns wf).batchCoord_eq_zero y 1 List.not_mem_nil,
      (columns wf).offCoord_eq_zero y 1 fun h => (((columns wf).mem_sKept 1).1 h).1 (List.mem_singleton.2 rfl)]
    show (columns wf).start y i 1 = _
    unfold GatherDims.start
    rw [dif_pos hm]
    have hs : (columns wf).siIdx y ⟨(columns wf).startIndexMap.idxOf 1, List.idxOf_lt_length_iff.2 hm⟩ = tokCol (y 1) := by
      funext a
      match a with
      | ⟨0, _⟩ => rfl
      | ⟨1, _⟩ => rfl
    rw [hs, toInt_of_lt hi, col_val hi, Int.toNat_natCast]
    exact Nat.min_eq_left (Nat.le_of_lt_succ hi)
  refine congrArg b (funext fun a => Fin.ext ?_)
  match a with
  | ⟨0, _⟩ => exact hrow
  | ⟨1, _⟩ => exact hcol

/-- The reference's operations, of in-range indices, compute the gathered columns. -/
theorem taken {x : IVec Tok 32} (hx : InBank x) (b : Bank.Idx → F .f32) (z : Out.Idx → F .f32)
    (hs : Sc.BroadcastsInDim Tok ![]) (hc : Tok.BroadcastsInDim TokCol ![0]) (h₀ : Sc.BroadcastsInDim TokCol ![])
    (h₁ : One.BroadcastsInDim OneOne ![1]) (h₂ : OneOne.BroadcastsInDim TokCol ![0, 1]) (hr : TokCol.ReducesTo [1] Tok)
    (hu : 0 < Sc.numel) (ho : Tok.BroadcastsInDim Out ![1]) (wf : GatherDims.WF Bank TokCol Out [0] [1] [] [1] [] 1 ![128, 1]) :
    select (broadcastInDim Out ![1] ho (inside (broadcastInDim TokCol ![0] hc (lifted x hs)) h₀ h₁ h₂ hr hu))
      (Host.gather (columns wf) b (broadcastInDim TokCol ![0] hc (lifted x hs))) z = picked x b := by
  rw [lifted_eq hx]
  funext y
  have hi : ∀ k, (broadcastInDim TokCol ![0] hc x k).toNat < 1000000 := fun k => by rw [column_at]; exact hx _
  have hm : broadcastInDim Out ![1] ho (inside (broadcastInDim TokCol ![0] hc x) h₀ h₁ h₂ hr hu) y = 1#1 := inside_eq hi h₀ h₁ h₂ hr hu _
  show Scalar.select (broadcastInDim Out ![1] ho (inside (broadcastInDim TokCol ![0] hc x) h₀ h₁ h₂ hr hu) y) (Host.gather (columns wf) b _ y) (z y) = _
  rw [hm, columns_at wf b _ y (hi _), column_at]
  rfl

end Cert.Proof.Value

end
-- ==== Proof.ReferenceIdeal.Taken.lean ====
/-
  The reference's run: every run ends with both arguments as they were and every semaphore at zero, and, where the
  indices are in range, with the result at the gathered columns. Generic in the float values.
-/
module

public import proofs.«01_k».proof.Proof.Taken
public import proofs.«01_k».proof.Proof.Gen.ReferenceIdeal
public import proofs.«01_k».proof.Proof.Gen.ReferenceIdeal.Run
public import Idealize.ShloMosaic.Lib.Quiescent

@[expose] public section

noncomputable section

namespace Cert.Proof.ReferenceIdeal

open Cert.ReferenceIdeal Cert.ReferenceIdeal.Gen Cert.Proof.Value
open Idealize.ShloMosaic Idealize.SL.Sem

variable {F : FTy → Type} [FloatOps F]
variable (m : (ℓ : Loc nD τ sig) → Buf (Elt F) ℓ) (ρ : Dev nD → PrngReg)

/-- A device's index list, bank and result. -/
abbrev iLoc (d : Dev nD) : Loc nD τ sig := (d.tc : Thread nD τ).loc main_arg0
abbrev aLoc (d : Dev nD) : Loc nD τ sig := (d.tc : Thread nD τ).loc main_arg1
abbrev oLoc (d : Dev nD) : Loc nD τ sig := (d.tc : Thread nD τ).loc main_v0

/-- Whatever the indices, every run ends with both arguments unchanged and every semaphore at zero. -/
theorem still : θ_run (Cert.ReferenceIdeal.defs (F := F)) (onTc (τ := τ) (Cert.ReferenceIdeal.main (F := F))) ⟨m, fun _ => 0, ρ⟩ fun r =>
    (∀ d : Dev nD, r.2.mem (iLoc d) = m (iLoc d) ∧ r.2.mem (aLoc d) = m (aLoc d)) ∧ r.2.sem = fun _ => 0 :=
  (θ_run _ _ _).mono (fun r h => ⟨fun d => (h d).2, sem_eq_zero_of_no_sems (by decide) r.2⟩) (Cert.ReferenceIdeal.Value.run m ρ)

/-- Of in-range indices, every run ends with the result at the gathered columns and both arguments unchanged. -/
theorem run (hx : ∀ d, InBank (m (iLoc d))) :
    θ_run (Cert.ReferenceIdeal.defs (F := F)) (onTc (τ := τ) (Cert.ReferenceIdeal.main (F := F))) ⟨m, fun _ => 0, ρ⟩ fun r =>
      ∀ d : Dev nD, r.2.mem (oLoc d) = picked (F := F) (m (iLoc d)) (m (aLoc d)) ∧ r.2.mem (iLoc d) = m (iLoc d) ∧ r.2.mem (aLoc d) = m (aLoc d) :=
  (θ_run _ _ _).mono (fun r h d => ⟨(h d).1.trans (taken (F := F) (hx d) (m (aLoc d)) _ bcast_S_S16384 bcast_S16384_S16384x1_0 bcast_S_S16384x1
      bcast_S1_S1x1_1 bcast_S1x1_S16384x1_0_1 reducesTo_S16384x1_S16384_d1 h_S_ bcast_S16384_S128x16384_1
      gather_S128x1000000_S16384x1_S128x16384_0_1_n_n_1_1_1281_wf), (h d).2⟩) (Cert.ReferenceIdeal.Value.run m ρ)

end Cert.Proof.ReferenceIdeal

end
-- ==== Proof.lean ====
/-
  The claims. The kernel and the reference each end with the gathered columns, so they agree: bit for bit as the words
  stand, and as extended reals over the ideal values. Neither rewrites an argument, and both leave every semaphore at zero.
-/
module

public import proofs.«01_k».proof.Defs
public import proofs.«01_k».proof.Proof.InRange
public import proofs.«01_k».proof.Proof.Kernel.Result
public import proofs.«01_k».proof.Proof.KernelIdeal.Result
public import proofs.«01_k».proof.Proof.Reference.Taken
public import proofs.«01_k».proof.Proof.ReferenceIdeal.Taken
public import Idealize.ShloMosaic.Adequacy
public import Idealize.ShloMosaic.Init

@[expose] public section

noncomputable section

namespace Cert.Proof

open Idealize.ShloMosaic Idealize.SL.Sem Cert.Proof.Value

/-- The kernel leaves its arguments unchanged and every semaphore at zero. -/
theorem frame_kernel : quiescent_Kernel := fun m g hp =>
  (θ_run _ _ _).mono (fun _ h => ⟨fun c => (h.1 c).2, h.2⟩) (Kernel.gathers m g fun d => inBank_of_pre (hp d))

/-- So does the kernel read over the ideal values. -/
theorem frame_kernelIdeal : quiescent_KernelIdeal := fun m g hp =>
  (θ_run _ _ _).mono (fun _ h => ⟨fun c => (h.1 c).2, h.2⟩) (KernelIdeal.gathers m g fun d => inBank_of_pre (hp d))

/-- Over the ideal values the kernel's result is the reference's. -/
theorem algebraic : algebraic_KernelIdeal_ReferenceIdeal := fun m g m' g' hp ha =>
  have hx : ∀ d, InBank (m (KernelIdeal.iLoc d)) := fun d => inBank_of_pre (hp d)
  have hx' : ∀ d, InBank (m' (ReferenceIdeal.iLoc d)) := fun d => by
    rw [show m' (ReferenceIdeal.iLoc d) = m (KernelIdeal.iLoc d) from (ha d).1]; exact hx d
  ⟨fun d => picked (F := Ideal) (m (KernelIdeal.iLoc d)) (m (KernelIdeal.aLoc d)),
    (θ_run _ _ _).mono (fun _ h => h.1) (KernelIdeal.gathers m g hx),
    (θ_run _ _ _).mono (fun _ h d => ⟨(h d).1.trans (congrArg₂ (picked (F := Ideal)) (ha d).1 (ha d).2), (h d).2⟩) (ReferenceIdeal.run m' g' hx')⟩

/-- The kernel's result is the reference's, bit for bit. -/
theorem bitexact : bitexact_Kernel_Reference := fun m g m' g' hp ha =>
  have hx : ∀ d, InBank (m (Kernel.iLoc d)) := fun d => inBank_of_pre (hp d)
  have hx' : ∀ d, InBank (m' (Reference.iLoc d)) := fun d => by
    rw [show m' (Reference.iLoc d) = m (Kernel.iLoc d) from (ha d).1]; exact hx d
  ⟨fun d => picked (F := Bits) (m (Kernel.iLoc d)) (m (Kernel.aLoc d)),
    (θ_run _ _ _).mono (fun _ h => h.1) (Kernel.gathers m g hx),
    (θ_run _ _ _).mono (fun _ h d => ⟨(h d).1.trans (congrArg₂ (picked (F := Bits)) (ha d).1 (ha d).2), (h d).2⟩) (Reference.run m' g' hx')⟩

/-- Everything the certificate claims. -/
theorem claim : Cert.Claim :=
  ⟨Cert.Kernel.Gen.facts, Cert.KernelIdeal.Gen.facts, Cert.ReferenceIdeal.Gen.facts, Cert.Reference.Gen.facts, Cert.Pre_index_in_bank.Gen.facts,
    frame_kernel, frame_kernelIdeal, fun m g _ => ReferenceIdeal.still m g, fun m g _ => ReferenceIdeal.still m g,
    fun m g _ => Reference.still m g, fun m g _ => Reference.still m g, trivial, algebraic, bitexact⟩

end Cert.Proof

end
